-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16x2048 : Shape := ⟨2, ![16, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16384x2048 .f32) (main_arg1 : FVec F S16x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S16384x2048 : Shape := ⟨2, ![16384, 2048]⟩
abbrev S16x2048 : Shape := ⟨2, ![16, 2048]⟩
abbrev S16384x128 : Shape := ⟨2, ![16384, 128]⟩
abbrev S2048x128 : Shape := ⟨2, ![2048, 128]⟩
abbrev S6144x2048 : Shape := ⟨2, ![6144, 2048]⟩
abbrev S3 : Shape := ⟨1, ![3]⟩
abbrev S1 : Shape := ⟨1, ![1]⟩
abbrev S_ : Shape := ⟨0, ![]⟩
abbrev S2048x2048 : Shape := ⟨2, ![2048, 2048]⟩
abbrev S2048x16 : Shape := ⟨2, ![2048, 16]⟩
abbrev S2048 : Shape := ⟨1, ![2048]⟩
abbrev S2048x1 : Shape := ⟨2, ![2048, 1]⟩
abbrev S2048x108 : Shape := ⟨2, ![2048, 108]⟩
abbrev S16384x16 : Shape := ⟨2, ![16384, 16]⟩
abbrev S16384x2 : Shape := ⟨2, ![16384, 2]⟩

abbrev nBuf : Space → Nat
  | .hbm => 7
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S16384x128, .f32⟩
  | .hbm, ⟨3, _⟩ => ⟨S16384x16, .f32⟩
  | .hbm, ⟨4, _⟩ => ⟨S16384x2, .f32⟩
  | .hbm, ⟨5, _⟩ => ⟨S16384x2, .f32⟩
  | .hbm, ⟨6, _⟩ => ⟨S16384x2, .i32⟩
  | .local _ .vmem, ⟨0, _⟩ => ⟨S16x2048, .f32⟩
  | .local _ .vmem, ⟨1, _⟩ => ⟨S2048x128, .f32⟩
  | .local _ .vmem, ⟨2, _⟩ => ⟨S2048x128, .f32⟩
  | .local _ .vmem, ⟨3, _⟩ => ⟨S6144x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c8_i32 : BitVec 32 := 8#32
  let v6 : BitVec 1 := Scalar.cmpi .slt v5 c8_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c3_i32_20 : BitVec 32 := 3#32
  let v61 : BitVec 32 := Scalar.remsi v5 c3_i32_20
  ![v61.toNat]
def k0_off2 (i : grid0.Coords) : Fin 2 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c3_i32_20 : BitVec 32 := 3#32
  let v61 : BitVec 32 := Scalar.remsi v5 c3_i32_20
  let c2048_i32_22 : BitVec 32 := 2048#32
  let v63 : BitVec 32 := Scalar.muli v61 c2048_i32_22
  let c0_i32_23 : BitVec 32 := 0#32
  ![v63.toNat, 0]
def k0_off3 (i : grid0.Coords) : Fin 2 → Nat :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c2048_i32_21 : BitVec 32 := 2048#32
  let v62 : BitVec 32 := Scalar.muli v5 c2048_i32_21
  let c0_i32_24 : BitVec 32 := 0#32
  ![v62.toNat, 0]
def k0_off4 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off5 (i : grid0.Coords) : Fin 2 → Nat :=
  let arg0 : BitVec 32 := BitVec.ofNat 32 (i 0).val
  let c3_i32 : BitVec 32 := 3#32
  let v0 : BitVec 32 := Scalar.remsi arg0 c3_i32
  let c2048_i32_3 : BitVec 32 := 2048#32
  let v10 : BitVec 32 := Scalar.muli v0 c2048_i32_3
  let c0_i32_4 : BitVec 32 := 0#32
  ![v10.toNat, 0]
def k0_off6 (i : grid0.Coords) : Fin 2 → Nat :=
  let arg0 : BitVec 32 := BitVec.ofNat 32 (i 0).val
  let c2048_i32 : BitVec 32 := 2048#32
  let v9 : BitVec 32 := Scalar.muli arg0 c2048_i32
  let c0_i32_5 : BitVec 32 := 0#32
  ![v9.toNat, 0]
def k0_off7 (i : grid0.Coords) : Fin 2 → Nat :=
  let arg0 : BitVec 32 := BitVec.ofNat 32 (i 0).val
  let c3_i32 : BitVec 32 := 3#32
  let v0 : BitVec 32 := Scalar.remsi arg0 c3_i32
  let c2048_i32_6 : BitVec 32 := 2048#32
  let v15 : BitVec 32 := Scalar.muli v0 c2048_i32_6
  let v16 : Index := Scalar.indexCast v15
  let c0 : Index := 0#32
  ![v16.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x2048 : Shape := ⟨2, ![16384, 2048]⟩
abbrev S16x2048 : Shape := ⟨2, ![16, 2048]⟩
abbrev S2048x16 : Shape := ⟨2, ![2048, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S2048x16, .f32⟩
  | .hbm, ⟨3, _⟩ => ⟨S16384x16, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | .hbm, ⟨18, _⟩ => ⟨S16384x2, .f32⟩
  | .hbm, ⟨19, _⟩ => ⟨S16384x2, .i32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x2, .f32⟩
  | .hbm, ⟨24, _⟩ => ⟨S16384x2, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.Block.lean ====
/-
  What the kernel leaves in the output block of a grid point.

  Point `t` reads its 2048 tokens out of one of three scratch slots. The slot holds the copy of rows
  `2048 t … 2048 t + 2047` of the token array, at every point. So the block is the payload of those rows and the
  expert vectors.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Block

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The tokens of point `t`: block `t` of the token array, as its copy reads it. -/
def tokens (c : Dev nD) (t : Fin cfg0.N) : Vec F S2048x2048 .f32 :=
  (srcB0_0 (Ring.bk 8 t.val)).view.read (Elt F) (V m c main_arg0)

/-- The load of a slot after a copy into the slot, at offsets equal to the slot's, is what was copied. -/
theorem readAt_slot (s : Fin 3) (off : Fin 2 → ℕ) (h : ∀ i, off i + (![2048, 2048] : Fin 2 → ℕ) i ≤ S6144x2048.size i)
    (e : off = ![2048 * s.val, 0]) (f : (rslot0_0 s).view.ty.Contents (Elt F)) (X : Vec F S2048x2048 .f32) :
    View.readAt (Elt F) (View.whole cc0_scratch0) (Rect.unit (s := S6144x2048) off ![2048, 2048] h).toLoadRect
        ((rslot0_0 s).view.writes (Elt F) f [⟨Rect.whole S2048x2048, X⟩])
      = X := by
  subst e
  exact View.read_writes_whole (rslot0_0 s).view f X

/-- The output block of a point, as the payload of its tokens and the expert vectors. -/
theorem outsAt0_eq (c : Dev nD) (t : Fin cfg0.N) :
    outsAt0 m c t.val t.isLt
      = k0_pay1 (k0_pay2 (tokens m c t) (iblk m c 0 t)) (k0_pay3 (tokens m c t) (iblk m c 0 t)) (iota .tc S2048x16 32 [1] iota_S2048x16_d1_w32)
          (k0_pay4 (tokens m c t) (iblk m c 0 t)) (k0_pay5 (tokens m c t) (iblk m c 0 t)) := by
  by_cases h0 : t.val % 8 = 0
  · have h1 : t.val < 6 := by
      have : t.val < 8 := t.isLt
      omega
    rw [outsAt0_A m c t h0 h1]
    frame_out
    rw [readAt_slot (Ring.sl 3 t.val) _ _ (coff0_0_13 t)]
    rfl
  · by_cases h1 : t.val < 6
    · rw [outsAt0_B m c t h0 h1]
      frame_out
      rw [readAt_slot (Ring.sl 3 t.val) _ _ (coff0_0_13 t)]
      rfl
    · rw [outsAt0_C m c t h0 h1]
      frame_out
      rw [readAt_slot (Ring.sl 3 t.val) _ _ (coff0_0_13 t)]
      rfl

/-- The tokens of point `t` are rows `2048 t …` of the token array as launched. -/
theorem tokens_apply (c : Dev nD) (t : Fin cfg0.N) (r k : Fin 2048) :
    tokens m c t (ix2 r k)
      = m ((c : Thread nD τ).loc main_arg0) (ix2 (⟨2048 * t.val + r.val, by have : t.val < 8 := t.isLt; omega⟩ : Fin 16384) k) := by
  have ht : t.val < 8 := t.isLt
  unfold tokens
  rw [V_main_arg0]
  show m ((c : Thread nD τ).loc main_arg0) _ = _
  congr 1
  have hb : (Ring.bk 8 t.val).val = t.val := Nat.mod_eq_of_lt ht
  funext a
  apply Fin.ext
  fin_cases a
  · show 2048 * (Ring.bk 8 t.val).val + 1 * r.val = 2048 * t.val + r.val
    omega
  · show 0 + 1 * k.val = k.val
    omega

/-- Every point stages block 0 of the expert array. -/
theorem experts_index : ∀ t : Fin cfg0.N, win0_0.index t 0 = 0 ∧ win0_0.index t 1 = 0 :=
  (by decide +kernel : ∀ t : Fin grid0.N, win0_0.index t 0 = 0 ∧ win0_0.index t 1 = 0)

/-- The expert vectors of every point are the whole expert array as launched. -/
theorem experts_apply (c : Dev nD) (t : Fin cfg0.N) (e : Fin 16) (k : Fin 2048) :
    iblk m c 0 t (ix2 e k) = m ((c : Thread nD τ).loc main_arg1) (ix2 e k) := by
  blk_simp [iblk]
  rw [V_main_arg1]
  congr 1
  blk_ext
  · rw [(experts_index t).1]; omega
  · rw [(experts_index t).2]; omega

end Cert.Proof.Block

end
-- ==== Proof.TopTwo.lean ====
/-
  The two best experts of one row.

  A row is a function `f : Fin 16 → EReal`. The kernel finds the greatest entry, then the lowest lane that
  reaches it (lanes are 32-bit words), masks that lane with `⊥`, and does the same again. The reference sorts
  the row downwards with a stable sort and keeps the first two positions. This module says that the two agree
  on every row whose entries are all above `⊥`.
-/
module

public import Idealize.ShloMosaic.PureOps
public import Idealize.ShloMosaic.PureOps.Ideal
public import Idealize.ShloMosaic.PureOps.Reduce
public import Idealize.ShloMosaic.Lib.SortFacts
public import Idealize.ShloMosaic.Lib.SortPrefix
public import Idealize.ShloMosaic.Lib.StableHlo.Predicate
public import Mathlib.Data.Finset.Fold
public import Mathlib.Data.Finset.Lattice.Fold

@[expose] public section

noncomputable section

namespace Cert.Proof.TopTwo

open Idealize.ShloMosaic

/-- The greatest entry of a row, as the maximum that starts at `⊥`. -/
def greatest (f : Fin 16 → EReal) : EReal := Finset.univ.fold max ⊥ f

/-- The word the kernel puts in a lane before it takes the least: the lane's number where the entry is the
    greatest, and `2 ^ 30` elsewhere. -/
def candidate (f : Fin 16 → EReal) (M : EReal) (k : Fin 16) : BitVec 32 :=
  if f k = M then BitVec.ofNat 32 k.val else 1073741824#32

/-- The least candidate word: the lowest lane that reaches the greatest entry. -/
def lane (f : Fin 16 → EReal) : BitVec 32 :=
  Finset.univ.fold IntOp.minsi 2147483647#32 (candidate f (greatest f))

/-- The row with the lane `w` set to `⊥`. -/
def without (f : Fin 16 → EReal) (w : BitVec 32) (k : Fin 16) : EReal :=
  Scalar.select (IntOp.cmpi .eq (BitVec.ofNat 32 k.val) w) ⊥ (f k)

/-- `p` is the first lane where the row is greatest. -/
structure First (f : Fin 16 → EReal) (p : Fin 16) : Prop where
  le : ∀ k, f k ≤ f p
  lt : ∀ k, k < p → f k < f p

/-- Every row has a first lane where it is greatest. -/
theorem exists_first (f : Fin 16 → EReal) : ∃ p, First f p := by
  obtain ⟨x, -, hx⟩ := Finset.exists_max_image Finset.univ f Finset.univ_nonempty
  let S := Finset.univ.filter fun k => f k = f x
  have hS : S.Nonempty := ⟨x, by simp [S]⟩
  have hp : f (S.min' hS) = f x := (Finset.mem_filter.mp (S.min'_mem hS)).2
  refine ⟨S.min' hS, fun k => hp ▸ hx k (Finset.mem_univ k), fun k hk => lt_of_le_of_ne (hp ▸ hx k (Finset.mem_univ k)) fun h => ?_⟩
  exact absurd (S.min'_le k (by simp [S, h, hp])) (not_le.mpr hk)

/-- The greatest entry is the entry at that lane. -/
theorem First.greatest_eq {f : Fin 16 → EReal} {p : Fin 16} (h : First f p) : greatest f = f p :=
  le_antisymm ((Finset.fold_max_le _).mpr ⟨bot_le, fun k _ => h.le k⟩)
    ((Finset.le_fold_max _).mpr (Or.inr ⟨p, Finset.mem_univ p, le_rfl⟩))

/-- The least of two words, read as integers. -/
theorem toInt_minsi (x y : BitVec 32) : (IntOp.minsi x y).toInt = min x.toInt y.toInt := by
  unfold IntOp.minsi
  by_cases h : x.slt y = true
  · rw [if_pos h]
    rw [BitVec.slt, decide_eq_true_eq] at h
    omega
  · rw [if_neg h]
    rw [BitVec.slt, decide_eq_true_eq] at h
    omega

/-- The least candidate word is the number of the first lane. -/
theorem First.lane_eq {f : Fin 16 → EReal} {p : Fin 16} (h : First f p) : lane f = BitVec.ofNat 32 p.val := by
  apply BitVec.eq_of_toInt_eq
  have hval : ∀ k : Fin 16, (BitVec.ofNat 32 k.val).toInt = k.val := by decide
  have hfold : (lane f).toInt
      = Finset.univ.fold min (2147483647#32 : BitVec 32).toInt (fun k => (candidate f (greatest f) k).toInt) :=
    (Finset.fold_hom (op := IntOp.minsi) (op' := min) (m := BitVec.toInt) toInt_minsi).symm
  rw [hfold, h.greatest_eq, hval]
  refine le_antisymm ((Finset.fold_min_le _).mpr (Or.inr ⟨p, Finset.mem_univ p, ?_⟩))
    ((Finset.le_fold_min _).mpr ⟨?_, fun k _ => ?_⟩)
  · simp only [candidate, if_pos]; exact (hval p).le
  · have := p.isLt
    have h2 : (2147483647#32 : BitVec 32).toInt = 2147483647 := by decide
    omega
  · unfold candidate
    have hp := p.isLt
    split
    · rename_i hk
      rw [hval]
      have : p ≤ k := not_lt.mp fun hlt => absurd hk (h.lt k hlt).ne
      exact_mod_cast this
    · have h2 : (1073741824#32 : BitVec 32).toInt = 1073741824 := by decide
      omega

/-- Two lanes have the same word only when they are the same lane. -/
theorem cmpi_lane (k p : Fin 16) : IntOp.cmpi .eq (BitVec.ofNat 32 k.val) (BitVec.ofNat 32 p.val) = if k = p then 1#1 else 0#1 := by
  revert k p; decide

/-- The row with a lane masked, as a case on the lane. -/
theorem without_lane (f : Fin 16 → EReal) (p k : Fin 16) : without f (BitVec.ofNat 32 p.val) k = if k = p then ⊥ else f k := by
  unfold without
  rw [cmpi_lane]
  by_cases h : k = p <;> simp [h, Scalar.select]

/-- `p` and `q` are the first two positions of the row in downward order, ties to the lower lane. -/
structure Best (f : Fin 16 → EReal) (p q : Fin 16) : Prop where
  first : First f p
  ne : q ≠ p
  le : ∀ k, k ≠ p → f k ≤ f q
  lt : ∀ k, k ≠ p → k < q → f k < f q

/-- The comparison of the reference's sort, on one row. -/
def greater (f : Fin 16 → EReal) (k k' : Fin 16) : Bool := decide (f k' < f k)

/-- The same comparison with ties broken towards the lower lane. -/
def greaterOrEarlier (f : Fin 16 → EReal) (k k' : Fin 16) : Bool :=
  decide (f k' < f k) || (decide (f k = f k') && decide (k < k'))

/-- An insertion sort of a list of increasing positions only ever asks whether a later position goes before
    an earlier one, so two comparisons that agree on such questions sort it the same way. -/
theorem stableSort_congr_of_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_of_later R R' h l hl.2]
    exact insertBefore_congr R R' a _ fun b hb => h a b (hl.1 b ((perm_stableSort R' l).mem_iff.mp hb))

/-- So the stable sort by the greater entry is the sort by the greater entry and then the lower lane. -/
theorem sortedFrom_greater (f : Fin 16 → EReal) : sortedFrom (greater f) = sortedFrom (greaterOrEarlier f) := by
  have h : sortPositions 16 (greater f) = sortPositions 16 (greaterOrEarlier f) :=
    stableSort_congr_of_later _ _ (fun a b hab => by simp [greater, greaterOrEarlier, not_lt.mpr hab.le]) _
      (List.pairwise_lt_finRange 16)
  funext k
  unfold sortedFrom
  simp only [List.get_eq_getElem, h, Fin.val_cast]

/-- Greater entry first, then lower lane, is a strict total order on the lanes. -/
theorem strictTotal (f : Fin 16 → EReal) : StrictTotalBefore (greaterOrEarlier f) :=
  StrictTotalBefore.of_key_then_position (fun a b : EReal => decide (b < a)) f (by simp) (by
      intro a b c h1 h2
      simp only [decide_eq_true_eq] at *
      exact h2.trans h1) (by
      intro a b
      rcases lt_trichotomy a b with h | h | h
      · exact Or.inr (Or.inr (decide_eq_true h))
      · exact Or.inr (Or.inl h)
      · exact Or.inl (decide_eq_true h))

/-- The first two positions of the reference's sort. -/
theorem Best.sortedFrom_eq {f : Fin 16 → EReal} {p q : Fin 16} (h : Best f p q) :
    sortedFrom (greater f) 0 = p ∧ sortedFrom (greater f) 1 = q := by
  rw [sortedFrom_greater]
  have key := (strictTotal f).sortedFrom_eq_of_prefix (k := 2) (by decide) ![p, q] (by
      intro i j hij
      fin_cases i <;> fin_cases j <;> simp_all [h.ne, h.ne.symm]) (by
      intro i j hij
      have : i = 0 ∧ j = 1 := by omega
      obtain ⟨rfl, rfl⟩ := this
      show greaterOrEarlier f q p = false
      simp only [greaterOrEarlier, Bool.or_eq_false_iff, Bool.and_eq_false_imp, decide_eq_false_iff_not, decide_eq_true_eq, not_lt]
      exact ⟨h.first.le q, fun he => not_lt.mp fun hlt => (h.first.lt q hlt).ne he⟩) (by
      intro i k hk
      have h0 : p ≠ k := hk 0
      have h1 : q ≠ k := hk 1
      simp only [greaterOrEarlier, Bool.or_eq_false_iff, Bool.and_eq_false_imp, decide_eq_false_iff_not, decide_eq_true_eq, not_lt]
      fin_cases i
      · exact ⟨h.first.le k, fun he => not_lt.mp fun hlt => (h.first.lt k hlt).ne he⟩
      · exact ⟨h.le k h0.symm, fun he => not_lt.mp fun hlt => (h.lt k h0.symm hlt).ne he⟩)
  exact ⟨key 0, key 1⟩

/-- The kernel's two rounds find the first two positions of the row, when every entry is above `⊥`. -/
theorem exists_best (f : Fin 16 → EReal) (hf : ∀ k, ⊥ < f k) : ∃ p q, Best f p q
    ∧ greatest f = f p ∧ lane f = BitVec.ofNat 32 p.val
    ∧ greatest (without f (lane f)) = f q ∧ lane (without f (lane f)) = BitVec.ofNat 32 q.val := by
  obtain ⟨p, hp⟩ := exists_first f
  obtain ⟨q, hq⟩ := exists_first (without f (lane f))
  have hw : ∀ k, without f (lane f) k = if k = p then ⊥ else f k := fun k => by rw [hp.lane_eq, without_lane]
  have hne : q ≠ p := by
    rintro rfl
    obtain ⟨k, hk⟩ : ∃ k : Fin 16, k ≠ q := exists_ne q
    have h := hq.le k
    rw [hw, hw, if_neg hk, if_pos rfl] at h
    exact absurd (hf k) (not_lt.mpr h)
  have hqe : without f (lane f) q = f q := by rw [hw, if_neg hne]
  refine ⟨p, q, ⟨hp, hne, fun k hk => ?_, fun k hk hlt => ?_⟩, hp.greatest_eq, hp.lane_eq, hq.greatest_eq.trans hqe, hq.lane_eq⟩
  · have h := hq.le k
    rwa [hqe, hw, if_neg hk] at h
  · have h := hq.lt k hlt
    rwa [hqe, hw, if_neg hk] at h

end Cert.Proof.TopTwo

end
-- ==== Proof.Rows.lean ====
/-
  One row of the router, as mathematics.

  The logits of a row are the dot products of a token with the expert vectors; the scores are their softmax,
  taken from the greatest logit. When the token and the experts are real numbers, the logits are real and the
  scores are real, so every score is above `⊥`.
-/
module

public import proofs.«01_k».proof.Proof.TopTwo
public import Mathlib.Data.EReal.Operations
public import Mathlib.Analysis.SpecialFunctions.Exp

@[expose] public section

noncomputable section

namespace Cert.Proof.Rows

open Idealize.ShloMosaic
open Cert.Proof.TopTwo

/-- The least float of the format is `⊥`. -/
theorem ofBits_least : (Ideal.ofBits .f32 (4286578688#32 : BitVec 32) : EReal) = ⊥ := by
  simp [Ideal.ofBits, Ideal.ieee]

/-- The exponential of an entry less the greatest entry. -/
def lifted (l : Fin 16 → EReal) (e : Fin 16) : EReal := Ideal.exp (l e - greatest l)

/-- The softmax of a row. -/
def score (l : Fin 16 → EReal) (e : Fin 16) : EReal := Ideal.div (lifted l e) (∑ k, lifted l k)

/-- The greatest score. -/
def top (l : Fin 16 → EReal) : EReal := greatest (score l)

/-- The row of scores with its first greatest lane masked. -/
def rest (l : Fin 16 → EReal) : Fin 16 → EReal := without (score l) (lane (score l))

/-- The second greatest score. -/
def second (l : Fin 16 → EReal) : EReal := greatest (rest l)

/-- A real number among the extended reals. -/
def IsReal (x : EReal) : Prop := ∃ r : ℝ, x = r

/-- A sum of real numbers is real. -/
theorem isReal_sum {n : ℕ} (f : Fin n → EReal) (h : ∀ k, IsReal (f k)) : IsReal (∑ k, f k) := by
  choose g hg using h
  exact ⟨∑ k, g k, by rw [Finset.sum_congr rfl fun k _ => hg k]; exact (map_sum (⟨⟨Real.toEReal, EReal.coe_zero⟩, EReal.coe_add⟩ : ℝ →+ EReal) g Finset.univ).symm⟩

/-- A product of real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The exponentials of a real row are positive real numbers. -/
theorem lifted_pos (l : Fin 16 → EReal) (hl : ∀ k, IsReal (l k)) : ∃ g : Fin 16 → ℝ, (∀ k, 0 < g k) ∧ ∀ k, lifted l k = g k := by
  obtain ⟨p, hp⟩ := exists_first l
  choose a ha using hl
  refine ⟨fun k => Real.exp (a k - a p), fun k => Real.exp_pos _, fun k => ?_⟩
  unfold lifted
  rw [hp.greatest_eq, ha k, ha p, ← EReal.coe_sub, Ideal.exp_coe]

/-- Every score of a real row is above `⊥`. -/
theorem bot_lt_score (l : Fin 16 → EReal) (hl : ∀ k, IsReal (l k)) (e : Fin 16) : ⊥ < score l e := by
  obtain ⟨g, hpos, hg⟩ := lifted_pos l hl
  have hsum : ∑ k, lifted l k = ((∑ k, g k : ℝ) : EReal) := by
    rw [Finset.sum_congr rfl fun k _ => hg k]
    exact (map_sum (⟨⟨Real.toEReal, EReal.coe_zero⟩, EReal.coe_add⟩ : ℝ →+ EReal) g Finset.univ).symm
  have hne : (∑ k, g k) ≠ 0 := (Finset.sum_pos (fun k _ => hpos k) Finset.univ_nonempty).ne'
  unfold score
  rw [hsum, hg e, Ideal.div_coe hne, ← EReal.coe_mul]
  exact EReal.bot_lt_coe _

/-- One row of the kernel's packed array: the logits, the two weights, the two lanes as numbers, zeros. -/
def packed (l : Fin 16 → EReal) (e : Fin 128) : EReal :=
  if h : e.val < 16 then l ⟨e.val, h⟩
  else if e.val = 16 then Ideal.div (top l) (top l + second l)
  else if e.val = 17 then Ideal.div (second l) (top l + second l)
  else if e.val = 18 then (((lane (score l)).toInt : ℝ) : EReal)
  else if e.val = 19 then (((lane (rest l)).toInt : ℝ) : EReal)
  else 0

end Cert.Proof.Rows

end
-- ==== Proof.Payload.lean ====
/-
  What one grid point computes.

  A point takes 2048 tokens `x` and the 16 expert vectors `w` and stores a block of 2048 rows and 128 columns.
  This module reads that block at one row and one column: it is the packed row of the row's logits.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.Proof.Payload

open Cert.KernelIdeal Cert.KernelIdeal.Gen Idealize.ShloMosaic Idealize.SL.Sem
open Cert.Proof.TopTwo Cert.Proof.Rows

variable (x : Vec Ideal S2048x2048 .f32) (w : Vec Ideal S16x2048 .f32)

/-- The logits of row `r` of a block of tokens. -/
def logits (r : Fin 2048) (e : Fin 16) : EReal := ∑ k : Fin 2048, x (ix2 r k) * w (ix2 e k)

/-- The product of the block, at one row and expert. -/
theorem pay2_apply (r : Fin 2048) (e : Fin 16) : (k0_pay2 x w (ix2 r e) : EReal) = logits x w r e := by
  pointwise [k0_pay2]
  rfl

/-- The softmax of the block, at one row and expert. -/
theorem pay3_apply (r : Fin 2048) (e : Fin 16) : (k0_pay3 x w (ix2 r e) : EReal) = score (logits x w r) e := by
  have h : ∀ k, (k0_pay2 x w (ix2 r k) : EReal) = logits x w r k := pay2_apply x w r
  unfold k0_pay3
  generalize k0_pay2 x w = l at h ⊢
  pointwise
  simp only [h, ofBits_least]
  rfl

/-- The greatest score of a row. -/
theorem pay4_apply (r : Fin 2048) : (k0_pay4 x w (ix1 r) : EReal) = top (logits x w r) := by
  have h : ∀ k, (k0_pay3 x w (ix2 r k) : EReal) = score (logits x w r) k := pay3_apply x w r
  unfold k0_pay4
  generalize k0_pay3 x w = l at h ⊢
  pointwise
  simp only [h, ofBits_least]
  rfl

/-- The words of which the first lane is the least. -/
theorem pay5_apply (r : Fin 2048) (e : Fin 16) :
    k0_pay5 x w (ix2 r e) = candidate (score (logits x w r)) (top (logits x w r)) e := by
  have h : ∀ k, (k0_pay3 x w (ix2 r k) : EReal) = score (logits x w r) k := pay3_apply x w r
  have h' : (k0_pay4 x w (ix1 r) : EReal) = top (logits x w r) := pay4_apply x w r
  unfold k0_pay5
  generalize k0_pay3 x w = l at h ⊢
  generalize k0_pay4 x w = m at h' ⊢
  pointwise
  simp only [h, h']
  rfl

/-- The block a grid point stores, at one row and column. -/
theorem pay1_apply (r : Fin 2048) (e : Fin 128) :
    (k0_pay1 (k0_pay2 x w) (k0_pay3 x w) (iota .tc S2048x16 32 [1] iota_S2048x16_d1_w32) (k0_pay4 x w) (k0_pay5 x w) (ix2 r e) : EReal)
      = packed (logits x w r) e := by
  have h2 : ∀ k, (k0_pay2 x w (ix2 r k) : EReal) = logits x w r k := pay2_apply x w r
  have h3 : ∀ k, (k0_pay3 x w (ix2 r k) : EReal) = score (logits x w r) k := pay3_apply x w r
  have h4 : (k0_pay4 x w (ix1 r) : EReal) = top (logits x w r) := pay4_apply x w r
  have h5 : ∀ k, k0_pay5 x w (ix2 r k) = candidate (score (logits x w r)) (top (logits x w r)) k := pay5_apply x w r
  unfold k0_pay1
  generalize k0_pay2 x w = l2 at h2 ⊢
  generalize k0_pay3 x w = l3 at h3 ⊢
  generalize k0_pay4 x w = l4 at h4 ⊢
  generalize k0_pay5 x w = l5 at h5 ⊢
  pointwise
  simp only [h2, h3, h4, h5, ofBits_least]
  unfold packed
  by_cases c0 : e.val < 16
  · rw [dif_pos c0, dif_pos c0]
  rw [dif_neg c0, dif_neg c0]
  by_cases c1 : e.val = 16
  · rw [dif_pos (by omega), if_pos c1]; rfl
  rw [dif_neg (by omega), if_neg c1]
  by_cases c2 : e.val = 17
  · rw [dif_pos (by omega), if_pos c2]; rfl
  rw [dif_neg (by omega), if_neg c2]
  by_cases c3 : e.val = 18
  · rw [dif_pos (by omega), if_pos c3]; rfl
  rw [dif_neg (by omega), if_neg c3]
  by_cases c4 : e.val = 19
  · rw [dif_pos (by omega), if_pos c4]; rfl
  rw [dif_neg (by omega), if_neg c4]

end Cert.Proof.Payload

end
-- ==== Proof.Packed.lean ====
/-
  The packed array the kernel leaves.

  Row `i` of the array is the packed row of token `i`'s logits: point `i / 2048` writes it.
-/
module

public import proofs.«01_k».proof.Proof.Block
public import proofs.«01_k».proof.Proof.Payload

@[expose] public section

set_option maxRecDepth 16384

noncomputable section

namespace Cert.Proof.Packed

open Cert.KernelIdeal Cert.KernelIdeal.Gen Idealize.ShloMosaic Idealize.ShloMosaic.TcCoe Idealize.SL.Sem
open Idealize.ShloMosaic.Pipeline (Dat)
open Cert.Proof.Rows

/-- The logits of token `i`: its dot products with the expert vectors. -/
def tokenLogits (x : Vec Ideal S16384x2048 .f32) (w : Vec Ideal S16x2048 .f32) (i : Fin 16384) (e : Fin 16) : EReal :=
  ∑ k : Fin 2048, x (ix2 i k) * w (ix2 e k)

/-- The packed array of an array of tokens and an array of experts. -/
def packedArray (x : Vec Ideal S16384x2048 .f32) (w : Vec Ideal S16x2048 .f32) : Vec Ideal S16384x128 .f32 :=
  fun j => packed (tokenLogits x w (j 0)) (j 1)

variable (m : (ℓ : Loc nD τ sig) → Buf (Elt Ideal) ℓ)

/-- Point `t` writes row block `t`. -/
theorem out_index : ∀ t : Fin cfg0.N, win0_1.index t 0 = t.val ∧ win0_1.index t 1 = 0 :=
  (by decide +kernel : ∀ t : Fin grid0.N, win0_1.index t 0 = t.val ∧ win0_1.index t 1 = 0)

/-- The logits of row `r` at point `t` are the logits of token `2048 t + r`. -/
theorem logits_eq (c : Dev nD) (t : Fin cfg0.N) (r : Fin 2048) (i : Fin 16384) (h : i.val = 2048 * t.val + r.val) :
    Payload.logits (Block.tokens m c t) (iblk m c 0 t) r
      = tokenLogits (m ((c : Thread nD τ).loc main_arg0)) (m ((c : Thread nD τ).loc main_arg1)) i := by
  funext e
  obtain ⟨i, hi⟩ := i
  subst h
  exact Finset.sum_congr rfl fun k _ => congrArg₂ (fun a b : EReal => a * b) (Block.tokens_apply m c t r k) (Block.experts_apply m c t e k)

/-- The kernel's output array after its last point. -/
theorem arrAt_eq (c : Dev nD) : (dats m 0 c).arrAt 1 cfg0.N
    = packedArray (m ((c : Thread nD τ).loc main_arg0)) (m ((c : Thread nD τ).loc main_arg1)) := by
  refine (dats m 0 c).arrAt_eq_of_covers 1 _ (by decide +kernel) fun t hf y => ?_
  blk_simp
  rw [after0_1, Block.outsAt0_eq]
  have ht : t.val < 8 := t.isLt
  have key : ∀ (r : Fin 2048) (e : Fin 128),
      (k0_pay1 (k0_pay2 (Block.tokens m c t) (iblk m c 0 t)) (k0_pay3 (Block.tokens m c t) (iblk m c 0 t))
          (iota .tc S2048x16 32 [1] iota_S2048x16_d1_w32) (k0_pay4 (Block.tokens m c t) (iblk m c 0 t))
          (k0_pay5 (Block.tokens m c t) (iblk m c 0 t)) (ix2 r e) : EReal)
        = packedArray (m ((c : Thread nD τ).loc main_arg0)) (m ((c : Thread nD τ).loc main_arg1)) ((win0_1.blk t).view.emb (ix2 r e)) := by
    intro r e
    have hemb : (win0_1.blk t).view.emb (ix2 r e) = ix2 (⟨2048 * t.val + r.val, by omega⟩ : Fin 16384) e := by
      blk_ext
      · rw [(out_index t).1]; omega
      · rw [(out_index t).2]; omega
    rw [Payload.pay1_apply, hemb, logits_eq m c t r ⟨2048 * t.val + r.val, by omega⟩ rfl]
    rfl
  have hy : y = ix2 (y 0 : Fin 2048) (y 1 : Fin 128) := by
    funext a
    fin_cases a <;> rfl
  rw [hy]
  exact key _ _

end Cert.Proof.Packed

end
-- ==== Proof.KernelRun.lean ====
/-
  The kernel program's results.

  After the grid, the host cuts the logits, the weights and the lane numbers out of the packed array and turns
  the lane numbers back into integers.
-/
module

public import proofs.«01_k».proof.Proof.Packed

@[expose] public section

set_option maxRecDepth 16384

noncomputable section

namespace Cert.Proof.KernelRun

open Cert.KernelIdeal Cert.KernelIdeal.Gen Idealize.ShloMosaic Idealize.ShloMosaic.TcCoe Idealize.SL.Sem
open Idealize.ShloMosaic.Pipeline (Dat)
open Cert.Proof.Packed

variable (m : (ℓ : Loc nD τ sig) → Buf (Elt Ideal) ℓ) (ρ : Dev nD → PrngReg)

/-- The logits cut out of a packed array. -/
def cutLogits (A : Vec Ideal S16384x128 .f32) : Vec Ideal S16384x16 .f32 :=
  extractStridedSlice S16384x16 ![0, 0] A slices_S16384x128_S16384x16_0_0

/-- The two weights cut out of a packed array. -/
def cutWeights (A : Vec Ideal S16384x128 .f32) : Vec Ideal S16384x2 .f32 :=
  extractStridedSlice S16384x2 ![0, 16] A slices_S16384x128_S16384x2_0_16

/-- The two lane numbers cut out of a packed array, as integers. -/
def cutLanes (A : Vec Ideal S16384x128 .f32) : IVec S16384x2 32 :=
  fptosi (F := Ideal) (φ := .f32) 32 (extractStridedSlice S16384x2 ![0, 18] A slices_S16384x128_S16384x2_0_18)

/-- The array the host line starts from is the packed array. -/
theorem entry_eq (c : Dev nD) :
    Pipeline.withArrays (cfgs 0).spec c (V0 m c) (fun w => (dats m 0 c).arrAt w (cfgs 0).N) (Proc.devRef .tc main_v0)
      = packedArray (m ((c : Thread nD τ).loc main_arg0)) (m ((c : Thread nD τ).loc main_arg1)) :=
  (Pipeline.withArrays_arr spec0 (by decide) c (V0 m c) (fun w => (dats m 0 c).arrAt w cfg0.N) 1).trans (arrAt_eq m c)

/-- The logits after the host line. -/
theorem tail_v1 (c : Dev nD) : Pipeline.afterTail₀ cfgs (dats m) 0 (V0 m) [hostOps1] c main_v1
    = cutLogits (packedArray (m ((c : Thread nD τ).loc main_arg0)) (m ((c : Thread nD τ).loc main_arg1))) := by
  rw [← entry_eq m c]
  unfold Pipeline.afterTail₀
  simp only [hostOps1, List.flatten_cons, List.flatten_nil, List.append_nil]
  after_results
  rfl

/-- The weights after the host line. -/
theorem tail_v2 (c : Dev nD) : Pipeline.afterTail₀ cfgs (dats m) 0 (V0 m) [hostOps1] c main_v2
    = cutWeights (packedArray (m ((c : Thread nD τ).loc main_arg0)) (m ((c : Thread nD τ).loc main_arg1))) := by
  rw [← entry_eq m c]
  unfold Pipeline.afterTail₀
  simp only [hostOps1, List.flatten_cons, List.flatten_nil, List.append_nil]
  after_results
  rfl

/-- The lanes after the host line. -/
theorem tail_v4 (c : Dev nD) : Pipeline.afterTail₀ cfgs (dats m) 0 (V0 m) [hostOps1] c main_v4
    = cutLanes (packedArray (m ((c : Thread nD τ).loc main_arg0)) (m ((c : Thread nD τ).loc main_arg1))) := by
  rw [← entry_eq m c]
  unfold Pipeline.afterTail₀
  simp only [hostOps1, List.flatten_cons, List.flatten_nil, List.append_nil]
  after_results
  rfl

/-- Every run of the kernel program ends with the three results cut out of the packed array and the arguments
    as launched. -/
theorem run : θ_run defs (onTc (τ := τ) (main (F := Ideal))) ⟨m, fun _ => 0, ρ⟩ fun r =>
    (∀ c : Dev nD, r.2.mem ((c : Thread nD τ).loc main_v2)
        = cutWeights (packedArray (m ((c : Thread nD τ).loc main_arg0)) (m ((c : Thread nD τ).loc main_arg1)))
      ∧ r.2.mem ((c : Thread nD τ).loc main_v4)
        = cutLanes (packedArray (m ((c : Thread nD τ).loc main_arg0)) (m ((c : Thread nD τ).loc main_arg1)))
      ∧ r.2.mem ((c : Thread nD τ).loc main_v1)
        = cutLogits (packedArray (m ((c : Thread nD τ).loc main_arg0)) (m ((c : Thread nD τ).loc main_arg1))))
    ∧ ∀ c : Dev nD, r.2.mem ((c : Thread nD τ).loc main_arg0) = m ((c : Thread nD τ).loc main_arg0)
      ∧ r.2.mem ((c : Thread nD τ).loc main_arg1) = m ((c : Thread nD τ).loc main_arg1) :=
  θ_run_and ((θ_run defs _ _).mono (fun r h c =>
      ⟨((h c).2 main_v2 (Pipeline.mem_restRefs_of main_v2 (by decide) (by decide))).trans (tail_v2 m c),
       ((h c).2 main_v4 (Pipeline.mem_restRefs_of main_v4 (by decide) (by decide))).trans (tail_v4 m c),
       ((h c).2 main_v1 (Pipeline.mem_restRefs_of main_v1 (by decide) (by decide))).trans (tail_v1 m c)⟩)
    (run_main m ρ)) (unchanged m ρ)

end Cert.Proof.KernelRun

end
-- ==== Proof.Reference.lean ====
/-
  What the reference computes, entry by entry: the logits, the scores, and the weights from the values kept.
-/
module

public import proofs.«01_k».proof.Proof.Gen.ReferenceIdeal.Run
public import proofs.«01_k».proof.Proof.Rows
public import Idealize.ShloMosaic.Lib.Pointwise

@[expose] public section

set_option maxRecDepth 16384

noncomputable section

namespace Cert.Proof.Reference

open Cert.ReferenceIdeal Cert.ReferenceIdeal.Gen Idealize.ShloMosaic Idealize.SL.Sem
open Cert.Proof.TopTwo Cert.Proof.Rows

variable (x : Vec Ideal S16384x2048 .f32) (w : Vec Ideal S16x2048 .f32)

/-- The reference's logits. -/
def logits : Vec Ideal S16384x16 .f32 :=
  Host.dotGeneral (F := Ideal) (φ₁ := .f32) (φ₂ := .f32) dot_S16384x2048_S2048x16_S16384x16_1_0_0_1_n_n none x (transpose S2048x16 [1, 0] w transposes_S16x2048_S2048x16_1_0)

/-- The reference's logits are the dot products of the tokens with the experts. -/
theorem logits_apply (i : Fin 16384) (e : Fin 16) :
    (logits x w (ix2 i e) : EReal) = ∑ k : Fin 2048, x (ix2 i k) * w (ix2 e k) := by
  pointwise [logits]

/-- The softmax of an array of logits. -/
def scores (l : Vec Ideal S16384x16 .f32) : Vec Ideal S16384x16 .f32 :=
  let d := Host.exp (F := Ideal) (subf l (broadcastInDim S16384x16 ![0, 1] bcast_S16384x1_S16384x16_0_1 (broadcastInDim S16384x1 ![0] bcast_S16384_S16384x1_0
    (maximumf (broadcastInDim S16384 ![] bcast_S_S16384 (constant (F := Ideal) S_ .f32 0xFF800000#32))
      (Host.reduce FloatOps.maximumf l (constant (F := Ideal) S_ .f32 0xFF800000#32) reducesTo_S16384x16_S16384_d1 h_S_)))))
  Host.divf d (broadcastInDim S16384x16 ![0, 1] bcast_S16384x1_S16384x16_0_1 (broadcastInDim S16384x1 ![0] bcast_S16384_S16384x1_0
    (Host.reduceAdd d (constant (F := Ideal) S_ .f32 0x00000000#32) reducesTo_S16384x16_S16384_d1 h_S_)))

/-- The reference's scores are the softmax of each row; its maximum starts at `⊥` twice, which changes nothing. -/
theorem scores_apply (l : Vec Ideal S16384x16 .f32) (i : Fin 16384) (e : Fin 16) :
    (scores l (ix2 i e) : EReal) = score (fun k => l (ix2 i k)) e := by
  pointwise [scores]
  simp only [ofBits_least, bot_le, max_eq_right]
  rfl

/-- The weights, from an array of values. -/
def weights (v : Vec Ideal S16384x2 .f32) : Vec Ideal S16384x2 .f32 :=
  Host.divf v (broadcastInDim S16384x2 ![0, 1] bcast_S16384x1_S16384x2_0_1 (broadcastInDim S16384x1 ![0] bcast_S16384_S16384x1_0
    (Host.reduceAdd v (constant (F := Ideal) S_ .f32 0x00000000#32) reducesTo_S16384x2_S16384_d1 h_S_)))

/-- The reference's weights are its two values over their sum. -/
theorem weights_apply (v : Vec Ideal S16384x2 .f32) (i : Fin 16384) (e : Fin 2) :
    (weights v (ix2 i e) : EReal) = Ideal.div (v (ix2 i e)) (v (ix2 i 0) + v (ix2 i 1)) := by
  pointwise [weights]
  rw [Fin.sum_univ_two]

end Cert.Proof.Reference

end
-- ==== Proof.ReferenceTopK.lean ====
/-
  What the reference's top-2 keeps of a row.

  The reference sorts each row of scores downwards, with ties to the lower lane, and keeps the first two
  positions: the values there and the lanes they came from.
-/
module

public import proofs.«01_k».proof.Proof.Gen.ReferenceIdeal
public import proofs.«01_k».proof.Proof.TopTwo
public import Idealize.ShloMosaic.Lib.Pointwise

@[expose] public section

set_option maxRecDepth 16384

noncomputable section

namespace Cert.Proof.ReferenceTopK

open Cert.ReferenceIdeal Cert.ReferenceIdeal.Gen Idealize.ShloMosaic Idealize.SL.Sem
open Cert.Proof.TopTwo

/-- Row `i` of an array of scores. -/
def row (s : Vec Ideal S16384x16 .f32) (i : Fin 16384) (k : Fin 16) : EReal := s (ix2 i k)

/-- Changing the lane of an index. -/
theorem along_lane (i : Fin 16384) (e k : Fin 16) :
    Shape.Idx.along (s := S16384x16) (ix2 i e) ⟨1, Nat.one_lt_two⟩ k = ix2 i k := by
  funext a
  fin_cases a <;> rfl

/-- The positions the reference's sort reads on row `i`. -/
theorem sorted_row (s : Vec Ideal S16384x16 .f32) (i : Fin 16384) (e : Fin 16) :
    (sortedFrom fun k k' : Fin 16 => FloatOps.cmpfTotal (F := Ideal) (φ := .f32) .gt
        (s (Shape.Idx.along (s := S16384x16) (ix2 i e) ⟨1, Nat.one_lt_two⟩ k)) (s (Shape.Idx.along (s := S16384x16) (ix2 i e) ⟨1, Nat.one_lt_two⟩ k')) == 1#1)
      = sortedFrom (greater (row s i)) := by
  congr 1
  funext k k'
  rw [along_lane, along_lane]
  show (BitVec.ofBool (decide (row s i k' < row s i k)) == 1#1) = greater (row s i) k k'
  unfold greater
  by_cases h : row s i k' < row s i k <;> simp [h]

/-- The first two lanes of a result, among the sixteen. -/
theorem slice_lane (i : Fin 16384) (e : Fin 2) {α : Type} (f : S16384x16.Idx → α) :
    extractStridedSlice S16384x2 (fun _ => 0) f sliceFits_S16384x16_S16384x2 (ix2 i e) = f (ix2 i (e.castLE (by decide) : Fin 16)) := by
  unfold extractStridedSlice
  congr 1
  funext a
  apply Fin.ext
  fin_cases a
  · exact Nat.zero_add _
  · exact Nat.zero_add _

/-- The values the reference keeps. -/
def values (s : Vec Ideal S16384x16 .f32) : Vec Ideal S16384x2 .f32 :=
  (Host.topK S16384x2 1 (FloatOps.cmpfTotal (F := Ideal) (φ := .f32) .gt) s sliceFits_S16384x16_S16384x2).1

/-- The lanes the reference keeps. -/
def lanes (s : Vec Ideal S16384x16 .f32) : IVec S16384x2 32 :=
  (Host.topK S16384x2 1 (FloatOps.cmpfTotal (F := Ideal) (φ := .f32) .gt) s sliceFits_S16384x16_S16384x2).2

/-- The values the reference keeps: row `i` at its first two positions. -/
theorem values_apply (s : Vec Ideal S16384x16 .f32) (i : Fin 16384) (e : Fin 2) :
    (values s (ix2 i e) : EReal)
      = row s i (sortedFrom (greater (row s i)) (e.castLE (by decide))) := by
  unfold values Host.topK Host.sort2
  dsimp only
  rw [dif_pos (by decide), slice_lane]
  dsimp only
  exact (congrArg (fun k : Fin 16 => s (Shape.Idx.along (s := S16384x16) (ix2 i (e.castLE (by decide) : Fin 16)) ⟨1, Nat.one_lt_two⟩ k))
    (congrFun (sorted_row s i (e.castLE (by decide))) (e.castLE (by decide)))).trans (congrArg s (along_lane i _ _))

/-- The lanes the reference keeps: the first two positions of row `i`, as words. -/
theorem lanes_apply (s : Vec Ideal S16384x16 .f32) (i : Fin 16384) (e : Fin 2) :
    lanes s (ix2 i e)
      = BitVec.ofNat 32 (sortedFrom (greater (row s i)) (e.castLE (by decide))).val := by
  unfold lanes Host.topK Host.sort2
  dsimp only
  rw [dif_pos (by decide), slice_lane]
  dsimp only
  rw [dif_pos (by decide)]
  exact (congrArg (fun k : Fin 16 => iotaInDim S16384x16 32 ⟨1, Nat.one_lt_two⟩
      (Shape.Idx.along (s := S16384x16) (ix2 i (e.castLE (by decide) : Fin 16)) ⟨1, Nat.one_lt_two⟩ k))
    (congrFun (sorted_row s i (e.castLE (by decide))) (e.castLE (by decide)))).trans
      ((congrArg (iotaInDim S16384x16 32 ⟨1, Nat.one_lt_two⟩) (along_lane i _ _)).trans rfl)

end Cert.Proof.ReferenceTopK

end
-- ==== Proof.Equation.lean ====
/-
  The kernel's results are the reference's results.

  Both are functions of the same two arrays. For real entries they agree at every token: the logits outright, the
  lanes because the kernel's two rounds find the first two positions of the sorted row, the weights because the two
  greatest scores are the scores at those positions.
-/
module

public import proofs.«01_k».proof.Proof.KernelRun
public import proofs.«01_k».proof.Proof.Reference
public import proofs.«01_k».proof.Proof.ReferenceTopK

@[expose] public section

set_option maxRecDepth 16384

noncomputable section

namespace Cert.Proof.Equation

open Cert.KernelIdeal Cert.KernelIdeal.Gen Idealize.ShloMosaic Idealize.SL.Sem
open Cert.Proof.TopTwo Cert.Proof.Rows Cert.Proof.Packed Cert.Proof.KernelRun

variable (x : Vec Ideal S16384x2048 .f32) (w : Vec Ideal S16x2048 .f32)

/-- An entry of a packed array. -/
theorem packedArray_apply (i : Fin 16384) (e : Fin 128) : (packedArray x w (ix2 i e) : EReal) = packed (tokenLogits x w i) e := rfl

/-- The reference's logits at a token. -/
theorem reference_logits (i : Fin 16384) : (fun k => (Reference.logits x w (ix2 i k) : EReal)) = tokenLogits x w i :=
  funext fun k => Reference.logits_apply x w i k

/-- The reference's scores at a token. -/
theorem reference_scores (i : Fin 16384) : ReferenceTopK.row (Reference.scores (Reference.logits x w)) i = score (tokenLogits x w i) := by
  funext k
  rw [← reference_logits]
  exact Reference.scores_apply _ i k

/-- A small word, turned into a number and back. -/
theorem fptosi_lane (p : Fin 16) : Ideal.fptosi 32 ((((BitVec.ofNat 32 p.val).toInt : ℝ) : EReal)) = BitVec.ofNat 32 p.val := by
  have hval : (BitVec.ofNat 32 p.val).toInt = (p.val : Int) := by revert p; decide
  have hle : (p.val : Int) ≤ 15 := by have := p.isLt; omega
  rw [hval, Ideal.fptosi, Ideal.toIntClamped_coe, if_pos (by positivity), Int.floor_intCast]
  have h1 : min ((2 ^ (32 - 1) : ℕ) - 1 : Int) (p.val : Int) = p.val := min_eq_right (by norm_num; omega)
  have h2 : max (-(2 ^ (32 - 1) : ℕ) : Int) (p.val : Int) = p.val := max_eq_right (by omega)
  rw [h1, h2]
  exact BitVec.ofInt_natCast 32 p.val

/-- The kernel's logits are the reference's. -/
theorem logits_eq : cutLogits (packedArray x w) = Reference.logits x w := by
  funext j
  have key : ∀ (i : Fin 16384) (e : Fin 16), (cutLogits (packedArray x w) (ix2 i e) : EReal) = Reference.logits x w (ix2 i e) := by
    intro i e
    have hcut : (cutLogits (packedArray x w) (ix2 i e) : EReal) = packedArray x w (ix2 i (⟨e.val, by omega⟩ : Fin 128)) := by
      pointwise [cutLogits]
    rw [hcut, packedArray_apply, Reference.logits_apply, packed, dif_pos e.isLt]
    rfl
  rw [eq_ix2 j]
  exact key _ _

/-- A row's lanes and greatest scores, beside the positions the reference's sort reads. -/
theorem row_best (hx : ∀ j, IsReal (x j)) (hw : ∀ j, IsReal (w j)) (i : Fin 16384) :
    ∃ p q : Fin 16, top (tokenLogits x w i) = score (tokenLogits x w i) p ∧ second (tokenLogits x w i) = score (tokenLogits x w i) q
      ∧ lane (score (tokenLogits x w i)) = BitVec.ofNat 32 p.val ∧ lane (rest (tokenLogits x w i)) = BitVec.ofNat 32 q.val
      ∧ sortedFrom (greater (score (tokenLogits x w i))) 0 = p ∧ sortedFrom (greater (score (tokenLogits x w i))) 1 = q := by
  have hl : ∀ e, IsReal (tokenLogits x w i e) := fun e => isReal_sum _ fun k => (hx _).mul (hw _)
  obtain ⟨p, q, hb, h1, h2, h3, h4⟩ := exists_best _ (bot_lt_score _ hl)
  exact ⟨p, q, h1, h3, h2, h4, hb.sortedFrom_eq.1, hb.sortedFrom_eq.2⟩

/-- The kernel's weights are the reference's. -/
theorem weights_eq (hx : ∀ j, IsReal (x j)) (hw : ∀ j, IsReal (w j)) :
    cutWeights (packedArray x w) = Reference.weights (ReferenceTopK.values (Reference.scores (Reference.logits x w))) := by
  funext j
  have key : ∀ (i : Fin 16384) (e : Fin 2), (cutWeights (packedArray x w) (ix2 i e) : EReal)
      = Reference.weights (ReferenceTopK.values (Reference.scores (Reference.logits x w))) (ix2 i e) := by
    intro i e
    have hcut : (cutWeights (packedArray x w) (ix2 i e) : EReal) = packedArray x w (ix2 i (⟨16 + e.val, by omega⟩ : Fin 128)) := by
      pointwise [cutWeights]
    obtain ⟨p, q, ht, hs, -, -, h0, h1⟩ := row_best x w hx hw i
    have v0 : (ReferenceTopK.values (Reference.scores (Reference.logits x w)) (ix2 i 0) : EReal) = score (tokenLogits x w i) p := by
      rw [ReferenceTopK.values_apply, reference_scores, ← h0]
      rfl
    have v1 : (ReferenceTopK.values (Reference.scores (Reference.logits x w)) (ix2 i 1) : EReal) = score (tokenLogits x w i) q := by
      rw [ReferenceTopK.values_apply, reference_scores, ← h1]
      rfl
    rw [hcut, packedArray_apply, Reference.weights_apply, v0, v1]
    fin_cases e
    · show _ = Ideal.div (ReferenceTopK.values (Reference.scores (Reference.logits x w)) (ix2 i 0)) _
      rw [v0, ← ht, ← hs]
      rfl
    · show _ = Ideal.div (ReferenceTopK.values (Reference.scores (Reference.logits x w)) (ix2 i 1)) _
      rw [v1, ← ht, ← hs]
      rfl
  rw [eq_ix2 j]
  exact key _ _

/-- The kernel's lanes are the reference's. -/
theorem lanes_eq (hx : ∀ j, IsReal (x j)) (hw : ∀ j, IsReal (w j)) :
    cutLanes (packedArray x w) = ReferenceTopK.lanes (Reference.scores (Reference.logits x w)) := by
  funext j
  have key : ∀ (i : Fin 16384) (e : Fin 2), cutLanes (packedArray x w) (ix2 i e)
      = ReferenceTopK.lanes (Reference.scores (Reference.logits x w)) (ix2 i e) := by
    intro i e
    have hcut : cutLanes (packedArray x w) (ix2 i e) = Ideal.fptosi 32 (packedArray x w (ix2 i (⟨18 + e.val, by omega⟩ : Fin 128))) := by
      pointwise [cutLanes]
      rfl
    obtain ⟨p, q, -, -, hp, hq, h0, h1⟩ := row_best x w hx hw i
    rw [hcut, packedArray_apply, ReferenceTopK.lanes_apply, reference_scores]
    fin_cases e
    · show Ideal.fptosi 32 (((lane (score (tokenLogits x w i))).toInt : ℝ) : EReal)
        = BitVec.ofNat 32 (sortedFrom (greater (score (tokenLogits x w i))) 0).val
      rw [hp, fptosi_lane, h0]
    · show Ideal.fptosi 32 (((lane (rest (tokenLogits x w i))).toInt : ℝ) : EReal)
        = BitVec.ofNat 32 (sortedFrom (greater (score (tokenLogits x w i))) 1).val
      rw [hq, fptosi_lane, h1]
  rw [eq_ix2 j]
  exact key _ _

end Cert.Proof.Equation

end
-- ==== Proof.Finite.lean ====
/-
  What the precondition says: every entry of both arguments is a real number.
-/
module

public import proofs.«01_k».proof.Proof.Gen.Pre_finite_inputs
public import proofs.«01_k».proof.Proof.Rows
public import Idealize.ShloMosaic.Lib.ReduceAll

@[expose] public section

set_option maxRecDepth 16384

noncomputable section

namespace Cert.Proof.Finite

open Cert.Pre_finite_inputs Idealize.ShloMosaic
open Cert.Proof.Rows

/-- The infinity of the format is `⊤`. -/
theorem ofBits_infinity : (Ideal.ofBits .f32 (0x7F800000#32 : BitVec 32) : EReal) = ⊤ := by
  simp [Ideal.ofBits, Ideal.ieee]

/-- A number whose absolute value is below `⊤` is real. -/
theorem isReal_of_abs_lt (x : EReal) (h : max x (-x) < ⊤) : IsReal x := by
  induction x with
  | bot => simp at h
  | top => simp at h
  | coe r => exact ⟨r, rfl⟩

/-- A comparison with the infinity that came out 1. -/
theorem isReal_of_cmp (x : EReal) (h : Ideal.cmp .olt (max x (-x)) (Ideal.ofBits .f32 (0x7F800000#32 : BitVec 32)) = 1#1) : IsReal x := by
  rw [ofBits_infinity] at h
  refine isReal_of_abs_lt x ?_
  by_contra hn
  simp [Ideal.cmp, hn] at h

/-- A scalar has one index. -/
instance : Subsingleton S_.Idx := ⟨fun _ _ => funext fun a => a.elim0⟩

/-- The precondition, read at every entry. -/
theorem entries_real [Facts] (x : FVec Ideal S16384x2048 .f32) (w : FVec Ideal S16x2048 .f32) (h : fn (F := Ideal) x w = fun _ => 1#1) :
    (∀ j, IsReal (x j)) ∧ ∀ j, IsReal (w j) := by
  have h0 := congrFun h fun a => a.elim0
  obtain ⟨h1, h2⟩ := IntOp.andi_eq_one.1 h0
  exact ⟨fun j => isReal_of_cmp _ (Host.reduce_andi_all _ _ _ _ _ h1 j), fun j => isReal_of_cmp _ (Host.reduce_andi_all _ _ _ _ _ h2 j)⟩

end Cert.Proof.Finite

end
-- ==== Proof.Algebraic.lean ====
/-
  The two runs side by side: the kernel program and the reference end with the same three results.
-/
module

public import proofs.«01_k».proof.Defs
public import proofs.«01_k».proof.Proof.Equation
public import proofs.«01_k».proof.Proof.Finite

@[expose] public section

noncomputable section

namespace Cert.Proof.Algebraic

open Idealize.ShloMosaic Idealize.ShloMosaic.TcCoe Idealize.SL.Sem
open Cert.Proof.Packed Cert.Proof.KernelRun

/-- For finite arguments the kernel's weights, lanes and logits are the reference's. -/
theorem same_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  have hreal := fun c => Finite.entries_real _ _ (hpre c)
  refine ⟨fun c => cutWeights (packedArray (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => cutLanes (packedArray (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    fun c => cutLogits (packedArray (m ((c.tc : Thread Cert.KernelIdeal.nD Cert.KernelIdeal.τ).loc Cert.KernelIdeal.main_arg0)) (m ((c.tc : Thread Cert.KernelIdeal.nD Cert.KernelIdeal.τ).loc Cert.KernelIdeal.main_arg1))), ?_, ?_⟩
  · exact (θ_run Cert.KernelIdeal.defs _ _).mono
      (fun r h c => ⟨(h.1 c).1, (h.1 c).2.1, (h.1 c).2.2, (h.2 c).1, (h.2 c).2⟩) (KernelRun.run m g)
  · refine (θ_run Cert.ReferenceIdeal.defs _ _).mono (fun r h c => ?_) (Cert.ReferenceIdeal.Value.run (F := Ideal) m' g')
    obtain ⟨hw, hi, hl, h0, h1⟩ := h c
    rw [(hargs c).1, (hargs c).2] at hw hi hl
    refine ⟨hw.trans ?_, hi.trans ?_, hl.trans ?_, h0, h1⟩
    · exact (Equation.weights_eq _ _ (hreal c).1 (hreal c).2).symm
    · exact (Equation.lanes_eq _ _ (hreal c).1 (hreal c).2).symm
    · exact (Equation.logits_eq _ _).symm

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every run of the reference ends with the arguments as launched and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The frames of the three programs, the empty ledger, and the equality of the three results. -/
theorem claim : Cert.Claim := ⟨Cert.Kernel.Gen.facts, Cert.KernelIdeal.Gen.facts, Cert.ReferenceIdeal.Gen.facts, Cert.Pre_finite_inputs.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  Cert.Proof.Algebraic.same_results⟩

end Cert.Proof

end
